-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_geometry [hPre_finite_geometry : Cert.Pre_finite_geometry.Facts] (m : (ℓ : Loc Cert.KernelIdeal.nD Cert.KernelIdeal.τ Cert.KernelIdeal.sig) → Buf (Elt Ideal) ℓ) : Prop :=
  ∀ c : Dev Cert.KernelIdeal.nD,
    (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_geometry [hPre_finite_geometry : Cert.Pre_finite_geometry.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_geometry [hKernelIdeal : Cert.KernelIdeal.Facts] [hPre_finite_geometry : Cert.Pre_finite_geometry.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_geometry m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_geometry [hReferenceIdeal : Cert.ReferenceIdeal.Facts] [hPre_finite_geometry : Cert.Pre_finite_geometry.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_geometry m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_geometry [hKernelIdeal : Cert.KernelIdeal.Facts] [hReferenceIdeal : Cert.ReferenceIdeal.Facts] [hPre_finite_geometry : Cert.Pre_finite_geometry.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_geometry m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_geometry : Cert.Pre_finite_geometry.Facts),
    quiescent_Kernel (hKernel := hKernel)
    ∧ quiescent_KernelIdeal (hKernelIdeal := hKernelIdeal)
    ∧ quiescent_KernelIdeal_pre_finite_geometry (hKernelIdeal := hKernelIdeal) (hPre_finite_geometry := hPre_finite_geometry)
    ∧ quiescent_ReferenceIdeal (hReferenceIdeal := hReferenceIdeal)
    ∧ quiescent_ReferenceIdeal_pre_finite_geometry (hReferenceIdeal := hReferenceIdeal) (hPre_finite_geometry := hPre_finite_geometry)
    ∧ preserves_Kernel_KernelIdeal
    ∧ algebraic_KernelIdeal_ReferenceIdeal_pre_finite_geometry (hKernelIdeal := hKernelIdeal) (hReferenceIdeal := hReferenceIdeal) (hPre_finite_geometry := hPre_finite_geometry)
-- ==== Pre_finite_geometry.lean ====
abbrev S4096x3 : Shape := ⟨2, ![4096, 3]⟩
abbrev S4096x32 : Shape := ⟨2, ![4096, 32]⟩
abbrev S4096x6 : Shape := ⟨2, ![4096, 6]⟩
abbrev S4096x1 : Shape := ⟨2, ![4096, 1]⟩
abbrev S8192x3 : Shape := ⟨2, ![8192, 3]⟩
abbrev S_ : Shape := ⟨0, ![]⟩

class Facts : Prop where
  bcast_S_S4096x3 : S_.BroadcastsInDim S4096x3 (![] : Fin 0 → Fin S4096x3.rank)
  bcast_S_S4096x6 : S_.BroadcastsInDim S4096x6 (![] : Fin 0 → Fin S4096x6.rank)
  bcast_S_S8192x3 : S_.BroadcastsInDim S8192x3 (![] : Fin 0 → Fin S8192x3.rank)

variable [Facts]

def fn {F : FTy → Type} [FloatOps F] (main_arg0 : FVec F S4096x3 .f32) (main_arg1 : FVec F S4096x32 .f32) (main_arg2 : FVec F S4096x6 .f32) (main_arg3 : FVec F S4096x6 .f32) (main_arg4 : FVec F S4096x1 .f32) (main_arg5 : FVec F S8192x3 .f32) : IVec S4096x3 1 × IVec S4096x6 1 × IVec S8192x3 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_v3 : FVec F S4096x6 .f32 := Host.absf main_arg3
  let main_cst_0 : FVec F S_ .f32 := constant S_ .f32 0x7F800000#32
  let main_v4 : FVec F S4096x6 .f32 := broadcastInDim S4096x6 ![] bcast_S_S4096x6 main_cst_0
  let main_v5 : IVec S4096x6 1 := cmpf .olt main_v3 main_v4
  let main_v6 : FVec F S8192x3 .f32 := Host.absf main_arg5
  let main_cst_1 : FVec F S_ .f32 := constant S_ .f32 0x7F800000#32
  let main_v7 : FVec F S8192x3 .f32 := broadcastInDim S8192x3 ![] bcast_S_S8192x3 main_cst_1
  let main_v8 : IVec S8192x3 1 := cmpf .olt main_v6 main_v7
  (main_v2, main_v5, main_v8)
-- ==== Kernel.lean ====
abbrev S4096x3 : Shape := ⟨2, ![4096, 3]⟩
abbrev S4096x32 : Shape := ⟨2, ![4096, 32]⟩
abbrev S4096x6 : Shape := ⟨2, ![4096, 6]⟩
abbrev S4096x1 : Shape := ⟨2, ![4096, 1]⟩
abbrev S8192x3 : Shape := ⟨2, ![8192, 3]⟩
abbrev S4096 : Shape := ⟨1, ![4096]⟩
abbrev S_ : Shape := ⟨0, ![]⟩
abbrev S1x4096 : Shape := ⟨2, ![1, 4096]⟩
abbrev S9x4096 : Shape := ⟨2, ![9, 4096]⟩
abbrev S8x4096 : Shape := ⟨2, ![8, 4096]⟩
abbrev S8192x1 : Shape := ⟨2, ![8192, 1]⟩
abbrev S8192 : Shape := ⟨1, ![8192]⟩
abbrev S8192x9 : Shape := ⟨2, ![8192, 9]⟩
abbrev S8192x5 : Shape := ⟨2, ![8192, 5]⟩
abbrev S5x4096 : Shape := ⟨2, ![5, 4096]⟩
abbrev S8192x32 : Shape := ⟨2, ![8192, 32]⟩
abbrev S32x4096 : Shape := ⟨2, ![32, 4096]⟩
abbrev S2048x32 : Shape := ⟨2, ![2048, 32]⟩
abbrev S2048x4096 : Shape := ⟨2, ![2048, 4096]⟩

abbrev nBuf : Space → Nat
  | .hbm => 125
  | .vmem => 7
  | .smem => 0
  | _ => 0

abbrev bufTy : (tb : Table) → Fin (tcTables nBuf tb) → BufTy
  | .hbm, ⟨0, _⟩ => ⟨S4096x3, .f32⟩
  | .hbm, ⟨1, _⟩ => ⟨S4096x32, .f32⟩
  | .hbm, ⟨2, _⟩ => ⟨S4096x6, .f32⟩
  | .hbm, ⟨3, _⟩ => ⟨S4096x6, .f32⟩
  | .hbm, ⟨4, _⟩ => ⟨S4096x1, .f32⟩
  | .hbm, ⟨5, _⟩ => ⟨S8192x3, .f32⟩
  | .hbm, ⟨6, _⟩ => ⟨S4096x1, .f32⟩
  | .hbm, ⟨7, _⟩ => ⟨S4096, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S4096, .f32⟩
  | .hbm, ⟨12, _⟩ => ⟨S4096x1, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S4096x1, .f32⟩
  | .hbm, ⟨17, _⟩ => ⟨S4096, .f32⟩
  | .hbm, ⟨18, _⟩ => ⟨S4096x1, .f32⟩
  | .hbm, ⟨19, _⟩ => ⟨S4096, .f32⟩
  | .hbm, ⟨20, _⟩ => ⟨S4096x1, .f32⟩
  | .hbm, ⟨21, _⟩ => ⟨S4096, .f32⟩
  | .hbm, ⟨22, _⟩ => ⟨S4096x1, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S9x4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S1x4096, .f32⟩
  | .hbm, ⟨76, _⟩ => ⟨S8x4096, .f32⟩
  | .hbm, ⟨77, _⟩ => ⟨S8192x1, .f32⟩
  | .hbm, ⟨78, _⟩ => ⟨S8192, .f32⟩
  | .hbm, ⟨79, _⟩ => ⟨S8192x1, .f32⟩
  | .hbm, ⟨80, _⟩ => ⟨S8192, .f32⟩
  | .hbm, ⟨81, _⟩ => ⟨S8192x1, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S8192, .f32⟩
  | .hbm, ⟨98, _⟩ => ⟨S8192x1, .f32⟩
  | .hbm, ⟨99, _⟩ => ⟨S8192x1, .f32⟩
  | .hbm, ⟨100, _⟩ => ⟨S8192x1, .f32⟩
  | .hbm, ⟨101, _⟩ => ⟨S8192x1, .f32⟩
  | .hbm, ⟨102, _⟩ => ⟨S8192x1, .f32⟩
  | .hbm, ⟨103, _⟩ => ⟨S8192x1, .f32⟩
  | .hbm, ⟨104, _⟩ => ⟨S8192x1, .f32⟩
  | .hbm, ⟨105, _⟩ => ⟨S8192x1, .f32⟩
  | .hbm, ⟨106, _⟩ => ⟨S8192x1, .f32⟩
  | .hbm, ⟨107, _⟩ => ⟨S8192x9, .f32⟩
  | .hbm, ⟨108, _⟩ => ⟨S8192x9, .bf16⟩
  | .hbm, ⟨109, _⟩ => ⟨S8192x9, .f32⟩
  | .hbm, ⟨110, _⟩ => ⟨S8192x9, .f32⟩
  | .hbm, ⟨111, _⟩ => ⟨S8192x9, .bf16⟩
  | .hbm, ⟨112, _⟩ => ⟨S9x4096, .bf16⟩
  | .hbm, ⟨113, _⟩ => ⟨S9x4096, .f32⟩
  | .hbm, ⟨114, _⟩ => ⟨S9x4096, .f32⟩
  | .hbm, ⟨115, _⟩ => ⟨S9x4096, .bf16⟩
  | .hbm, ⟨116, _⟩ => ⟨S_, .bf16⟩
  | .hbm, ⟨117, _⟩ => ⟨S8192x5, .bf16⟩
  | .hbm, ⟨118, _⟩ => ⟨S_, .bf16⟩
  | .hbm, ⟨119, _⟩ => ⟨S5x4096, .bf16⟩
  | .hbm, ⟨120, _⟩ => ⟨S8192x32, .bf16⟩
  | .hbm, ⟨121, _⟩ => ⟨S32x4096, .bf16⟩
  | .hbm, ⟨122, _⟩ => ⟨S4096x32, .f32⟩
  | .hbm, ⟨123, _⟩ => ⟨S4096x32, .f32⟩
  | .hbm, ⟨124, _⟩ => ⟨S8192x32, .f32⟩
  | .local _ .vmem, ⟨0, _⟩ => ⟨S2048x32, .bf16⟩
  | .local _ .vmem, ⟨1, _⟩ => ⟨S2048x32, .bf16⟩
  | .local _ .vmem, ⟨2, _⟩ => ⟨S32x4096, .bf16⟩
  | .local _ .vmem, ⟨3, _⟩ => ⟨S8x4096, .f32⟩
  | .local _ .vmem, ⟨4, _⟩ => ⟨S4096x32, .f32⟩
  | .local _ .vmem, ⟨5, _⟩ => ⟨S2048x32, .f32⟩
  | .local _ .vmem, ⟨6, _⟩ => ⟨S2048x32, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_cst_0 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_6 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_9 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x3 : Shape := ⟨2, ![4096, 3]⟩
abbrev S4096x32 : Shape := ⟨2, ![4096, 32]⟩
abbrev S4096x6 : Shape := ⟨2, ![4096, 6]⟩
abbrev S4096x1 : Shape := ⟨2, ![4096, 1]⟩
abbrev S8192x3 : Shape := ⟨2, ![8192, 3]⟩
abbrev S4096 : Shape := ⟨1, ![4096]⟩
abbrev S8192x1 : Shape := ⟨2, ![8192, 1]⟩
abbrev S8192 : Shape := ⟨1, ![8192]⟩
abbrev S_ : Shape := ⟨0, ![]⟩
abbrev S8192x6 : Shape := ⟨2, ![8192, 6]⟩
abbrev S6x4096 : Shape := ⟨2, ![6, 4096]⟩
abbrev S8192x4096 : Shape := ⟨2, ![8192, 4096]⟩
abbrev S3x4096 : Shape := ⟨2, ![3, 4096]⟩
abbrev S1x4096 : Shape := ⟨2, ![1, 4096]⟩
abbrev S8192x32 : Shape := ⟨2, ![8192, 32]⟩

abbrev nBuf : Space → Nat
  | .hbm => 96
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x32, .f32⟩
  | .hbm, ⟨2, _⟩ => ⟨S4096x6, .f32⟩
  | .hbm, ⟨3, _⟩ => ⟨S4096x6, .f32⟩
  | .hbm, ⟨4, _⟩ => ⟨S4096x1, .f32⟩
  | .hbm, ⟨5, _⟩ => ⟨S8192x3, .f32⟩
  | .hbm, ⟨6, _⟩ => ⟨S4096x1, .f32⟩
  | .hbm, ⟨7, _⟩ => ⟨S4096, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S4096, .f32⟩
  | .hbm, ⟨12, _⟩ => ⟨S4096x1, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S4096x1, .f32⟩
  | .hbm, ⟨17, _⟩ => ⟨S4096, .f32⟩
  | .hbm, ⟨18, _⟩ => ⟨S8192x1, .f32⟩
  | .hbm, ⟨19, _⟩ => ⟨S8192, .f32⟩
  | .hbm, ⟨20, _⟩ => ⟨S8192x1, .f32⟩
  | .hbm, ⟨21, _⟩ => ⟨S8192, .f32⟩
  | .hbm, ⟨22, _⟩ => ⟨S8192x1, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x6, .f32⟩
  | .hbm, ⟨46, _⟩ => ⟨S6x4096, .f32⟩
  | .hbm, ⟨47, _⟩ => ⟨S8192x4096, .f32⟩
  | .hbm, ⟨48, _⟩ => ⟨S4096x1, .f32⟩
  | .hbm, ⟨49, _⟩ => ⟨S4096, .f32⟩
  | .hbm, ⟨50, _⟩ => ⟨S4096x1, .f32⟩
  | .hbm, ⟨51, _⟩ => ⟨S4096, .f32⟩
  | .hbm, ⟨52, _⟩ => ⟨S4096x1, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x3, .f32⟩
  | .hbm, ⟨73, _⟩ => ⟨S3x4096, .f32⟩
  | .hbm, ⟨74, _⟩ => ⟨S8192x4096, .f32⟩
  | .hbm, ⟨75, _⟩ => ⟨S_, .f32⟩
  | .hbm, ⟨76, _⟩ => ⟨S8192x4096, .f32⟩
  | .hbm, ⟨77, _⟩ => ⟨S8192x4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S8192x4096, .f32⟩
  | .hbm, ⟨84, _⟩ => ⟨S1x4096, .f32⟩
  | .hbm, ⟨85, _⟩ => ⟨S8192x4096, .f32⟩
  | .hbm, ⟨86, _⟩ => ⟨S8192x4096, .f32⟩
  | .hbm, ⟨87, _⟩ => ⟨S4096, .f32⟩
  | .hbm, ⟨88, _⟩ => ⟨S1x4096, .f32⟩
  | .hbm, ⟨89, _⟩ => ⟨S_, .f32⟩
  | .hbm, ⟨90, _⟩ => ⟨S8192x4096, .f32⟩
  | .hbm, ⟨91, _⟩ => ⟨S8192x4096, .f32⟩
  | .hbm, ⟨92, _⟩ => ⟨S8192x4096, .f32⟩
  | .hbm, ⟨93, _⟩ => ⟨S8192x4096, .f32⟩
  | .hbm, ⟨94, _⟩ => ⟨S8192x4096, .f32⟩
  | .hbm, ⟨95, _⟩ => ⟨S8192x32, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_2 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_3 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩

abbrev nD : Nat := 1
abbrev τ : Topo := Topo.v7x

variable {F : FTy → Type} [FloatOps F]
-- ==== Proof.Blend.lean ====
/-
  The mathematics of the claim, free of programs: the exponent a Gaussian gives a sample point, as the kernel writes it
  (one product of thirty-two terms plus a constant) and as the reference writes it (a quadratic form minus twice a
  linear form plus a constant, halved and negated), and the proof that the two are one extended real where the means,
  the conics and the samples are real numbers.
-/
module

public import proofs.«01_k».proof.Defs
public import Idealize.ShloMosaic.Lib.Pipeline.ValueKit

@[expose] public section

noncomputable section

open Idealize.ShloMosaic

namespace Cert.Blend

/-! ## Extended reals that are real numbers -/

/-- The extended real is a real number. -/
def IsReal (x : EReal) : Prop := ∃ r : ℝ, x = (r : EReal)

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real number minus itself is zero, which fails at the two infinities. -/
theorem IsReal.sub_self {x : EReal} (hx : IsReal x) : x - x = 0 := by
  obtain ⟨a, rfl⟩ := hx
  rw [← EReal.coe_sub, _root_.sub_self, EReal.coe_zero]

/-- An extended real whose absolute value is below infinity is a real number. -/
theorem isReal_of_abs_lt {x : EReal} (h : max x (-x) < ⊤) : IsReal x := by
  induction x with
  | bot => simp at h
  | top => simp at h
  | coe r => exact ⟨r, rfl⟩

/-! ## The three constants of the two programs -/

/-- The constant −1/2, as both programs print it. -/
abbrev negHalf : EReal := Ideal.ofBits .f32 0xBF000000#32

/-- The constant 2, as both programs print it. -/
abbrev two : EReal := Ideal.ofBits .f32 0x40000000#32

/-- The constant −2, as the reference prints it. -/
abbrev negTwo : EReal := Ideal.ofBits .f32 0xC0000000#32

/-- The first constant is the real number −1/2. -/
theorem negHalf_eq : negHalf = ((-(1 / 2) : ℝ) : EReal) := by
  simp [negHalf, Ideal.ofBits, Ideal.ieee]
  rw [← EReal.coe_mul]
  norm_num

/-- The second constant is the real number 2. -/
theorem two_eq : two = ((2 : ℝ) : EReal) := by
  simp [two, Ideal.ofBits, Ideal.ieee]
  rw [← EReal.coe_mul]
  norm_num

/-- The third constant is the real number −2. -/
theorem negTwo_eq : negTwo = ((-2 : ℝ) : EReal) := by
  simp [negTwo, Ideal.ofBits, Ideal.ieee]
  rw [← EReal.coe_mul]
  norm_num

/-- The bit pattern of the bound in the precondition is positive infinity. -/
theorem inf_eq : Ideal.ofBits .f32 0x7F800000#32 = (⊤ : EReal) := by
  simp [Ideal.ofBits, Ideal.ieee]

/-! ## The exponent, in both spellings -/

/-- A Gaussian's matrix, packed as its six upper entries, times its mean. -/
def lin (a : Fin 6 → EReal) (μ : Fin 3 → EReal) : Fin 3 → EReal :=
  ![a 0 * μ 0 + a 1 * μ 1 + a 2 * μ 2, a 1 * μ 0 + a 3 * μ 1 + a 4 * μ 2, a 2 * μ 0 + a 4 * μ 1 + a 5 * μ 2]

/-- The mean's own quadratic form: the mean against its image under the matrix. -/
def own (a : Fin 6 → EReal) (μ : Fin 3 → EReal) : EReal :=
  μ 0 * lin a μ 0 + μ 1 * lin a μ 1 + μ 2 * lin a μ 2

/-- The six second-order features of a sample point. -/
def quad (s : Fin 3 → EReal) : Fin 6 → EReal :=
  ![s 0 * s 0, two * s 0 * s 1, two * s 0 * s 2, s 1 * s 1, two * s 1 * s 2, s 2 * s 2]

/-- The kernel's nine features of a sample point: the second-order ones, then the point itself. -/
def feat (s : Fin 3 → EReal) : Fin 9 → EReal :=
  ![s 0 * s 0, two * s 0 * s 1, two * s 0 * s 2, s 1 * s 1, two * s 1 * s 2, s 2 * s 2, s 0, s 1, s 2]

/-- The kernel's nine coefficients of a Gaussian, one for each feature. -/
def coef (a : Fin 6 → EReal) (μ : Fin 3 → EReal) : Fin 9 → EReal :=
  ![negHalf * a 0, negHalf * a 1, negHalf * a 2, negHalf * a 3, negHalf * a 4, negHalf * a 5,
    lin a μ 0, lin a μ 1, lin a μ 2]

/-- The kernel's row of thirty-two for a sample point: the features twice, what their rounding lost, and padding. -/
def row (f : Fin 9 → EReal) (k : Fin 32) : EReal :=
  if h : k.val < 9 then f ⟨k.val, h⟩
  else if h : k.val - 9 < 9 then f ⟨k.val - 9, h⟩
  else if h : k.val - 9 - 9 < 9 then f ⟨k.val - 9 - 9, h⟩ - f ⟨k.val - 9 - 9, h⟩
  else 0

/-- The kernel's column of thirty-two for a Gaussian: the coefficients, what their rounding lost, the coefficients
    again, and padding. -/
def col (g : Fin 9 → EReal) (k : Fin 32) : EReal :=
  if h : k.val < 9 then g ⟨k.val, h⟩
  else if h : k.val - 9 < 9 then g ⟨k.val - 9, h⟩ - g ⟨k.val - 9, h⟩
  else if h : k.val - 9 - 9 < 9 then g ⟨k.val - 9 - 9, h⟩
  else 0

/-- The exponent as the kernel forms it. -/
def kernelExponent (s μ : Fin 3 → EReal) (a : Fin 6 → EReal) : EReal :=
  (∑ k : Fin 32, row (feat s) k * col (coef a μ) k) + negHalf * own a μ

/-- The exponent as the reference forms it: −1/2 times the squared distance, multiplied out. -/
def referenceExponent (s μ : Fin 3 → EReal) (a : Fin 6 → EReal) : EReal :=
  negHalf * ((∑ k : Fin 6, quad s k * a k) + negTwo * (∑ j : Fin 3, s j * lin a μ j) + own a μ)

/-- A sum of nine terms written out. -/
theorem sum_nine (f : Fin 9 → EReal) : ∑ k, f k = f 0 + f 1 + f 2 + f 3 + f 4 + f 5 + f 6 + f 7 + f 8 := by
  rw [Fin.sum_univ_castSucc, Fin.sum_univ_eight]
  rfl

/-- A product of a row and a column of thirty-two is the three products of nine it is made of. -/
theorem row_mul_col (f g : Fin 9 → EReal) :
    ∑ k : Fin 32, row f k * col g k
      = ∑ k : Fin 9, f k * g k + (∑ k : Fin 9, f k * (g k - g k) + ∑ k : Fin 9, (f k - f k) * g k) := by
  refine (Fin.sum_univ_add (a := 9) (b := 23) _).trans (congrArg₂ _ (Finset.sum_congr rfl fun k _ => ?_) ?_)
  · simp [row, col]
  refine (Fin.sum_univ_add (a := 9) (b := 14) _).trans (congrArg₂ _ (Finset.sum_congr rfl fun k _ => ?_) ?_)
  · simp [row, col]
  refine (Fin.sum_univ_add (a := 9) (b := 5) _).trans ?_
  refine (congrArg₂ _ (Finset.sum_congr rfl fun k _ => ?_) (Finset.sum_eq_zero fun k _ => ?_)).trans (add_zero _)
  · simp [row, col]
  · simp [row, col]

/-- Where features and coefficients are real numbers the rounding lost nothing, so one product of nine is left. -/
theorem row_mul_col_real {f g : Fin 9 → EReal} (hf : ∀ k, IsReal (f k)) (hg : ∀ k, IsReal (g k)) :
    ∑ k : Fin 32, row f k * col g k = ∑ k : Fin 9, f k * g k := by
  rw [row_mul_col]
  simp only [(hf _).sub_self, (hg _).sub_self, mul_zero, zero_mul, Finset.sum_const_zero, add_zero]

/-- The image of a real mean under a real matrix is real. -/
theorem lin_real {a : Fin 6 → EReal} {μ : Fin 3 → EReal} (ha : ∀ k, IsReal (a k)) (hμ : ∀ j, IsReal (μ j)) (j : Fin 3) :
    IsReal (lin a μ j) := by
  have h (p q r : Fin 6) : IsReal (a p * μ 0 + a q * μ 1 + a r * μ 2) :=
    (((ha p).mul (hμ 0)).add ((ha q).mul (hμ 1))).add ((ha r).mul (hμ 2))
  fin_cases j <;> exact h _ _ _

/-- The features of a real sample point are real. -/
theorem feat_real {s : Fin 3 → EReal} (hs : ∀ j, IsReal (s j)) (k : Fin 9) : IsReal (feat s k) := by
  have h (p q : Fin 3) : IsReal (s p * s q) := (hs p).mul (hs q)
  have h2 (p q : Fin 3) : IsReal (two * s p * s q) := (IsReal.mul ⟨2, two_eq⟩ (hs p)).mul (hs q)
  fin_cases k
  all_goals first | exact h _ _ | exact h2 _ _ | exact hs _

/-- The coefficients of a real Gaussian are real. -/
theorem coef_real {a : Fin 6 → EReal} {μ : Fin 3 → EReal} (ha : ∀ k, IsReal (a k)) (hμ : ∀ j, IsReal (μ j)) (k : Fin 9) :
    IsReal (coef a μ k) := by
  have h (p : Fin 6) : IsReal (negHalf * a p) := IsReal.mul ⟨_, negHalf_eq⟩ (ha p)
  fin_cases k
  all_goals first | exact h _ | exact lin_real ha hμ 0 | exact lin_real ha hμ 1 | exact lin_real ha hμ 2

/-- The two spellings of the exponent agree where sample, mean and matrix are real. -/
theorem exponents_eq {s μ : Fin 3 → EReal} {a : Fin 6 → EReal} (hs : ∀ j, IsReal (s j)) (hμ : ∀ j, IsReal (μ j))
    (ha : ∀ k, IsReal (a k)) : kernelExponent s μ a = referenceExponent s μ a := by
  unfold kernelExponent referenceExponent
  rw [row_mul_col_real (feat_real hs) (coef_real ha hμ)]
  choose S hS using hs
  choose M hM using hμ
  choose A hA using ha
  rw [sum_nine, Fin.sum_univ_six, Fin.sum_univ_three]
  simp only [feat, coef, quad, own, lin, Matrix.cons_val, hS, hM, hA, negHalf_eq, two_eq, negTwo_eq, ← EReal.coe_mul,
    ← EReal.coe_add]
  refine congrArg _ ?_
  ring

end Cert.Blend
end
-- ==== Proof.Operands.lean ====
/-
  What the kernel's four operand arrays hold when it is launched, entry by entry: the host lines before the launch read
  at an index, as the features, coefficients, constants and weighted values of Blend.lean over the argument arrays.
-/
module

public import proofs.«01_k».proof.Defs
public import proofs.«01_k».proof.Proof.Blend
public import proofs.«01_k».proof.Proof.Gen.KernelIdeal.Value
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.KernelIdeal.Operands

open Cert.KernelIdeal Cert.KernelIdeal.Gen Cert.Blend

variable (m : (ℓ : Loc nD τ sig) → Buf (Elt Ideal) ℓ)

/-! ## The arguments at coordinates -/

/-- Sample point `r`. -/
def sample (c : Dev nD) (r : Fin 8192) : Fin 3 → EReal :=
  fun j => (m (c, main_arg5) : FVec Ideal ⟨2, ![8192, 3]⟩ .f32) (ix2 r j)

/-- The mean of Gaussian `n`. -/
def mean (c : Dev nD) (n : Fin 4096) : Fin 3 → EReal :=
  fun j => (m (c, main_arg0) : FVec Ideal ⟨2, ![4096, 3]⟩ .f32) (ix2 n j)

/-- The packed matrix of Gaussian `n`. -/
def conic (c : Dev nD) (n : Fin 4096) : Fin 6 → EReal :=
  fun k => (m (c, main_arg3) : FVec Ideal ⟨2, ![4096, 6]⟩ .f32) (ix2 n k)

/-- The opacity of Gaussian `n`. -/
def opacity (c : Dev nD) (n : Fin 4096) : EReal :=
  (m (c, main_arg4) : FVec Ideal ⟨2, ![4096, 1]⟩ .f32) (ix2 n 0)

/-- Entry `q` of the value vector of Gaussian `n`. -/
def value (c : Dev nD) (n : Fin 4096) (q : Fin 32) : EReal :=
  (m (c, main_arg1) : FVec Ideal ⟨2, ![4096, 32]⟩ .f32) (ix2 n q)

/-! ## The operand arrays at an index -/

set_option maxHeartbeats 4000000 in  -- thirty-two entries, each read through its own host lines
/-- The left operand: sample `r`'s row of thirty-two. -/
theorem left_at (c : Dev nD) (r : Fin 8192) (k : Fin 32) :
    @Eq EReal ((V m c main_v102 : FVec Ideal ⟨2, ![8192, 32]⟩ .bf16) (ix2 r k)) (row (feat (sample m c r)) k) := by
  unfold V row
  after_reads_at
  fin_vals k with hk
  all_goals simp only [hk, Nat.reduceSub, Nat.reduceLT, ↓reduceDIte]
  all_goals after_reads_at
  all_goals try simp only [Nat.reduceSub, Nat.reduceLT, ↓reduceDIte]
  all_goals try after_reads_at
  all_goals rfl

set_option maxHeartbeats 4000000 in  -- thirty-two entries, each read through its own host lines
/-- The right operand: Gaussian `n`'s column of thirty-two. -/
theorem right_at (c : Dev nD) (n : Fin 4096) (k : Fin 32) :
    @Eq EReal ((V m c main_v103 : FVec Ideal ⟨2, ![32, 4096]⟩ .bf16) (ix2 k n)) (col (coef (conic m c n) (mean m c n)) k) := by
  unfold V col
  after_reads_at
  fin_vals k with hk
  all_goals simp only [hk, Nat.reduceSub, Nat.reduceLT, ↓reduceDIte]
  all_goals after_reads_at
  all_goals try simp only [Nat.reduceSub, Nat.reduceLT, ↓reduceDIte]
  all_goals try after_reads_at
  all_goals rfl

/-- The constant added to every exponent of Gaussian `n`, in each of the array's eight equal rows. -/
theorem const_at (c : Dev nD) (p : Fin 8) (n : Fin 4096) :
    @Eq EReal ((V m c main_v63 : FVec Ideal ⟨2, ![8, 4096]⟩ .f32) (ix2 p n)) (negHalf * own (conic m c n) (mean m c n)) := by
  unfold V
  after_reads_at
  rfl

/-- The weighted values: Gaussian `n`'s value vector times its opacity. -/
theorem weighted_at (c : Dev nD) (n : Fin 4096) (q : Fin 32) :
    @Eq EReal ((V m c main_v105 : FVec Ideal ⟨2, ![4096, 32]⟩ .f32) (ix2 n q)) (opacity m c n * value m c n q) := by
  unfold V
  after_reads_at
  rfl

end Cert.KernelIdeal.Operands
end
-- ==== Proof.KernelValue.lean ====
/-
  What the kernel leaves in its result array: block by block what the body computes, read at an index, and from the
  blocks the whole array as one function of the arguments.
-/
module

public import proofs.«01_k».proof.Proof.Operands

@[expose] public section

set_option maxRecDepth 16384

noncomputable section

open Idealize.ShloMosaic Idealize.ShloMosaic.TcCoe Idealize.SL.Sem
open Idealize.ShloMosaic.Pipeline (Dat)

namespace Cert.KernelIdeal.BlendValue

open Cert.KernelIdeal Cert.KernelIdeal.Gen Cert.KernelIdeal.Operands Cert.Blend

variable (m : (ℓ : Loc nD τ sig) → Buf (Elt Ideal) ℓ)

/-- The kernel's result: at each sample the weighted values of all Gaussians, each times the exponential of its
    exponent there. -/
def result (c : Dev nD) : FVec Ideal ⟨2, ![8192, 32]⟩ .f32 := fun j =>
  ∑ n : Fin 4096, Ideal.exp (kernelExponent (sample m c (j 0)) (mean m c n) (conic m c n)) * (opacity m c n * value m c n (j 1))

/-- Where the windows stand at grid point `t`: samples and results at block `t`, the three other operands whole. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The sample that row `p` of block `t` stands for. -/
def place (t : Fin cfg0.N) (p : Fin 2048) : Fin 8192 :=
  ⟨t.val * 2048 + p.val, by have h : t.val < 4 := t.isLt; omega⟩

/-! ## The four input blocks at an index -/

/-- Row `p` of the first block at point `t` is the row of thirty-two of its sample. -/
theorem left_blk (c : Dev nD) (t : Fin cfg0.N) (p : Fin 2048) (k : Fin 32) :
    @Eq EReal ((iblk m c 0 t : FVec Ideal ⟨2, ![2048, 32]⟩ .bf16) (ix2 p k)) (row (feat (sample m c (place t p))) k) := by
  rw [← left_at]
  blk_ext [iblk, idx t, place]

/-- Column `n` of the second block is the column of thirty-two of Gaussian `n`. -/
theorem right_blk (c : Dev nD) (t : Fin cfg0.N) (n : Fin 4096) (k : Fin 32) :
    @Eq EReal ((iblk m c 1 t : FVec Ideal ⟨2, ![32, 4096]⟩ .bf16) (ix2 k n)) (col (coef (conic m c n) (mean m c n)) k) := by
  rw [← right_at]
  blk_ext [iblk, idx t]

/-- Any row of the third block holds the Gaussians' constants. -/
theorem const_blk (c : Dev nD) (t : Fin cfg0.N) (p : Fin 8) (n : Fin 4096) :
    @Eq EReal ((iblk m c 2 t : FVec Ideal ⟨2, ![8, 4096]⟩ .f32) (ix2 p n)) (negHalf * own (conic m c n) (mean m c n)) := by
  rw [← const_at m c p n]
  blk_ext [iblk, idx t]

/-- The fourth block holds the weighted values. -/
theorem weighted_blk (c : Dev nD) (t : Fin cfg0.N) (n : Fin 4096) (q : Fin 32) :
    @Eq EReal ((iblk m c 3 t : FVec Ideal ⟨2, ![4096, 32]⟩ .f32) (ix2 n q)) (opacity m c n * value m c n q) := by
  rw [← weighted_at]
  blk_ext [iblk, idx t]

/-! ## The result -/

/-- What the body computes at row `p` and column `q` of block `t`: the result at the sample that row stands for. -/
theorem body_at (c : Dev nD) (t : Fin cfg0.N) (p : Fin 2048) (q : Fin 32) :
    @Eq EReal (k0_pay1 (F := Ideal) (iblk m c 0 t) (iblk m c 1 t) (View.ld (iblk m c 2 t) r0_2) (iblk m c 3 t) (ix2 p q))
      (result m c (ix2 (place t p) q)) := by
  pointwise [k0_pay1]
  refine Finset.sum_congr rfl fun n _ => congrArg₂ _ (congrArg _ (congrArg₂ _ (Finset.sum_congr rfl fun k _ => ?_) ?_)) ?_
  · exact congrArg₂ _ (left_blk m c t p k) (right_blk m c t n k)
  · exact const_blk m c t 0 n
  · exact weighted_blk m c t n q

/-- After the last grid point the result array holds `result`. -/
theorem final (c : Dev nD) : (dats m 0 c).arrAt 4 (cfgs 0).N = result m c := by
  refine (dats m 0 c).arrAt_eq_of_covers 4 _ (by decide +kernel) fun t _ y => ?_
  blk_simp
  rw [after0_4]
  frame_out
  idx_vars y
  refine (body_at m c t y0 y1).trans ?_
  blk_ext [idx t, place]

end Cert.KernelIdeal.BlendValue
end
-- ==== Proof.ReferenceValue.lean ====
/-
  What the reference leaves in its result array, as one function of its argument arrays.
-/
module

public import proofs.«01_k».proof.Defs
public import proofs.«01_k».proof.Proof.Blend
public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Blend

/-- The blended values at every sample: each Gaussian's value vector times its opacity and the exponential of its
    exponent at the sample, summed over the Gaussians. -/
def blended (means : FVec Ideal ⟨2, ![4096, 3]⟩ .f32) (values : FVec Ideal ⟨2, ![4096, 32]⟩ .f32)
    (conics : FVec Ideal ⟨2, ![4096, 6]⟩ .f32) (opacities : FVec Ideal ⟨2, ![4096, 1]⟩ .f32)
    (samples : FVec Ideal ⟨2, ![8192, 3]⟩ .f32) : FVec Ideal ⟨2, ![8192, 32]⟩ .f32 := fun j =>
  ∑ n : Fin 4096, opacities (ix2 n 0) * Ideal.exp (referenceExponent (fun k => samples (ix2 (j 0) k))
    (fun k => means (ix2 n k)) (fun k => conics (ix2 n k))) * values (ix2 n (j 1))

/-- The reference's six stacked features are `quad`, entry by entry. -/
theorem quad_ladder (s : Fin 3 → EReal) (k : Fin 6) :
    (if k.val < 1 then s 0 * s 0
      else if k.val - 1 < 1 then two * s 0 * s 1
      else if k.val - 1 - 1 < 1 then two * s 0 * s 2
      else if k.val - 1 - 1 - 1 < 1 then s 1 * s 1
      else if k.val - 1 - 1 - 1 - 1 < 1 then two * s 1 * s 2
      else s 2 * s 2) = quad s k := by
  fin_cases k <;> rfl

/-- The reference's three stacked linear forms are `lin`, entry by entry. -/
theorem lin_ladder (a : Fin 6 → EReal) (μ : Fin 3 → EReal) (j : Fin 3) :
    (if j.val < 1 then a 0 * μ 0 + a 1 * μ 1 + a 2 * μ 2
      else if j.val - 1 < 1 then a 1 * μ 0 + a 3 * μ 1 + a 4 * μ 2
      else a 2 * μ 0 + a 4 * μ 1 + a 5 * μ 2) = lin a μ j := by
  fin_cases j <;> rfl

end Cert.Blend

namespace Cert.ReferenceIdeal.BlendValue

open Cert.ReferenceIdeal Cert.ReferenceIdeal.Gen Cert.ReferenceIdeal.Value Cert.Blend

variable (m : (ℓ : Loc nD τ sig) → Buf (Elt Ideal) ℓ)

/-- The reference's result array is `blended` of its arguments. -/
theorem final (c : Dev nD) :
    res_out0 m c = blended (m (c.tc.loc main_arg0)) (m (c.tc.loc main_arg1)) (m (c.tc.loc main_arg3))
      (m (c.tc.loc main_arg4)) (m (c.tc.loc main_arg5)) := by
  funext j
  idx_vars j
  unfold res_out0 res_main_v84
  clean_types
  pointwise [blended]
  refine Finset.sum_congr rfl fun n _ => congrArg₂ _ (congrArg _ (congrArg _ (congrArg _ (congrArg₂ _
    (congrArg₂ _ (Finset.sum_congr rfl fun k _ => congrArg₂ _ ?_ rfl) (congrArg _ (Finset.sum_congr rfl fun k _ => congrArg _ ?_))) ?_)))) rfl
  · exact quad_ladder (fun k => m (c.tc.loc main_arg5) (ix2 j0 k)) k
  · exact lin_ladder (fun k => m (c.tc.loc main_arg3) (ix2 n k)) (fun k => m (c.tc.loc main_arg0) (ix2 n k)) k
  · rfl

end Cert.ReferenceIdeal.BlendValue
end
-- ==== Proof.Finite.lean ====
/-
  The precondition read: where `finite_geometry` is all ones, every mean, conic and sample is a real number.
-/
module

public import proofs.«01_k».proof.Defs
public import proofs.«01_k».proof.Proof.Blend
public import proofs.«01_k».proof.Proof.Gen.Pre_finite_geometry
public import Idealize.ShloMosaic.Lib.Pointwise

@[expose] public section

set_option maxRecDepth 16384

noncomputable section

open Idealize.ShloMosaic

namespace Cert.Pre_finite_geometry.Read

open Cert.Pre_finite_geometry Cert.Blend

/-- A comparison bit that reads one says its left operand is below its right. -/
theorem real_of_bit {x : EReal} (h : FloatOps.cmpf (F := Ideal) (φ := .f32) .olt (FloatOps.hostAbsf (F := Ideal) (φ := .f32) x)
    (FloatOps.ofBits (F := Ideal) .f32 0x7F800000#32) = 1#1) : IsReal x := by
  refine isReal_of_abs_lt ?_
  have h' : Ideal.cmp .olt (max x (-x)) (Ideal.ofBits .f32 0x7F800000#32) = 1#1 := h
  rw [inf_eq] at h'
  by_contra hn
  simp [Ideal.cmp, hn] at h'

variable (means : FVec Ideal ⟨2, ![4096, 3]⟩ .f32) (values : FVec Ideal ⟨2, ![4096, 32]⟩ .f32)
  (covariances conics : FVec Ideal ⟨2, ![4096, 6]⟩ .f32) (opacities : FVec Ideal ⟨2, ![4096, 1]⟩ .f32)
  (samples : FVec Ideal ⟨2, ![8192, 3]⟩ .f32)

/-- Every mean is real. -/
theorem means_real [Facts] (h : (fn means values covariances conics opacities samples).1 = fun _ => 1#1) (n : Fin 4096)
    (k : Fin 3) : IsReal (means (ix2 n k)) :=
  real_of_bit (congrFun h (ix2 n k))

/-- Every conic is real. -/
theorem conics_real [Facts] (h : (fn means values covariances conics opacities samples).2.1 = fun _ => 1#1) (n : Fin 4096)
    (k : Fin 6) : IsReal (conics (ix2 n k)) :=
  real_of_bit (congrFun h (ix2 n k))

/-- Every sample is real. -/
theorem samples_real [Facts] (h : (fn means values covariances conics opacities samples).2.2 = fun _ => 1#1) (r : Fin 8192)
    (k : Fin 3) : IsReal (samples (ix2 r k)) :=
  real_of_bit (congrFun h (ix2 r k))

end Cert.Pre_finite_geometry.Read
end
-- ==== Proof.Tie.lean ====
/-
  The kernel's result is the reference's where the geometry is finite: at every sample and for every Gaussian the two
  exponents agree, and the three factors of each summand are the same in another order.
-/
module

public import proofs.«01_k».proof.Proof.KernelValue
public import proofs.«01_k».proof.Proof.ReferenceValue
public import proofs.«01_k».proof.Proof.Finite

@[expose] public section

set_option maxRecDepth 16384

noncomputable section

open Idealize.ShloMosaic Idealize.ShloMosaic.TcCoe Idealize.SL.Sem

namespace Cert.KernelIdeal.BlendValue

open Cert.KernelIdeal Cert.KernelIdeal.Gen Cert.KernelIdeal.Operands Cert.Blend

variable (m : (ℓ : Loc nD τ sig) → Buf (Elt Ideal) ℓ)

/-- Under the precondition the kernel's result is the blended values of its arguments. -/
theorem result_eq_blended [Cert.Pre_finite_geometry.Facts] (hpre : Pre_KernelIdeal_finite_geometry m) (c : Dev nD) :
    result m c = blended (m (c.tc.loc main_arg0)) (m (c.tc.loc main_arg1)) (m (c.tc.loc main_arg3))
      (m (c.tc.loc main_arg4)) (m (c.tc.loc main_arg5)) := by
  funext j
  refine Finset.sum_congr rfl fun n _ => ?_
  have e := exponents_eq (s := sample m c (j 0)) (μ := mean m c n) (a := conic m c n)
    (Cert.Pre_finite_geometry.Read.samples_real _ _ _ _ _ _ (hpre c).2.2 (j 0))
    (Cert.Pre_finite_geometry.Read.means_real _ _ _ _ _ _ (hpre c).1 n)
    (Cert.Pre_finite_geometry.Read.conics_real _ _ _ _ _ _ (hpre c).2.1 n)
  rw [e, ← mul_assoc, mul_comm (Ideal.exp _)]
  rfl

end Cert.KernelIdeal.BlendValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_geometry
public import proofs.«01_k».proof.Proof.Tie
public import Idealize.ShloMosaic.Adequacy
public import Idealize.ShloMosaic.Lib.Quiescent
public import Idealize.ShloMosaic.Init

@[expose] public section

noncomputable section

namespace Cert.Proof

open Idealize.ShloMosaic Idealize.SL.Sem

/-- The reference runs and leaves its arguments as they were; it has no semaphores, so every counter is zero. -/
theorem reference_frame : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Where means, conics and samples are finite, the kernel and the reference end with the same result array. -/
theorem same_result : @Cert.algebraic_KernelIdeal_ReferenceIdeal_pre_finite_geometry Cert.KernelIdeal.Gen.facts
    Cert.ReferenceIdeal.Gen.facts Cert.Pre_finite_geometry.Gen.facts := by
  intro m ρ m' ρ' hpre hagree
  have hsame (c : Dev Cert.KernelIdeal.nD) :
      Cert.ReferenceIdeal.Value.res_out0 m' c = Cert.KernelIdeal.BlendValue.result m c := by
    obtain ⟨h0, h1, -, h3, h4, h5⟩ := hagree c
    rw [Cert.ReferenceIdeal.BlendValue.final m' c, Cert.KernelIdeal.BlendValue.result_eq_blended m hpre c]
    exact congr (congr (congr (congr (congrArg _ h0) h1) h3) h4) h5
  exact ⟨Cert.KernelIdeal.BlendValue.result m,
    (θ_run Cert.KernelIdeal.defs _ _).mono
      (fun _ h c => ⟨(h c).1.trans (Cert.KernelIdeal.BlendValue.final m c), (h c).2⟩)
      (Cert.KernelIdeal.Value.run_blocks m ρ),
    (θ_run Cert.ReferenceIdeal.defs _ _).mono (fun _ h c => ⟨(h c).1.trans (hsame c), (h c).2⟩)
      (Cert.ReferenceIdeal.Value.run m' ρ')⟩

/-- Everything that is claimed of the kernel, its idealization and the reference. -/
theorem claim : Cert.Claim :=
  ⟨Cert.Kernel.Gen.facts, Cert.KernelIdeal.Gen.facts, Cert.ReferenceIdeal.Gen.facts, Cert.Pre_finite_geometry.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    same_result⟩

end Cert.Proof

end
